-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_projector [hPre_projector : Cert.Pre_projector.Facts] (m : (ℓ : Loc Cert.KernelIdeal.nD Cert.KernelIdeal.τ Cert.KernelIdeal.sig) → Buf (Elt Ideal) ℓ) : Prop :=
  ∀ c : Dev Cert.KernelIdeal.nD,
    (Cert.Pre_projector.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_projector [hPre_projector : Cert.Pre_projector.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_projector.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_projector [hKernelIdeal : Cert.KernelIdeal.Facts] [hPre_projector : Cert.Pre_projector.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_projector m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_projector [hReferenceIdeal : Cert.ReferenceIdeal.Facts] [hPre_projector : Cert.Pre_projector.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_projector m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_projector [hKernelIdeal : Cert.KernelIdeal.Facts] [hReferenceIdeal : Cert.ReferenceIdeal.Facts] [hPre_projector : Cert.Pre_projector.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_projector m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_projector : Cert.Pre_projector.Facts),
    quiescent_Kernel (hKernel := hKernel)
    ∧ quiescent_KernelIdeal (hKernelIdeal := hKernelIdeal)
    ∧ quiescent_KernelIdeal_pre_projector (hKernelIdeal := hKernelIdeal) (hPre_projector := hPre_projector)
    ∧ quiescent_ReferenceIdeal (hReferenceIdeal := hReferenceIdeal)
    ∧ quiescent_ReferenceIdeal_pre_projector (hReferenceIdeal := hReferenceIdeal) (hPre_projector := hPre_projector)
    ∧ preserves_Kernel_KernelIdeal
    ∧ algebraic_KernelIdeal_ReferenceIdeal_pre_projector (hKernelIdeal := hKernelIdeal) (hReferenceIdeal := hReferenceIdeal) (hPre_projector := hPre_projector)
-- ==== Pre_projector.lean ====
abbrev S32x2002x2002 : Shape := ⟨3, ![32, 2002, 2002]⟩
abbrev S2002x128 : Shape := ⟨2, ![2002, 128]⟩
abbrev S_ : Shape := ⟨0, ![]⟩

class Facts : Prop where
  bcast_S_S2002x128 : S_.BroadcastsInDim S2002x128 (![] : Fin 0 → Fin S2002x128.rank)
  reducesTo_S2002x128_S_d0_1 : S2002x128.ReducesTo [0, 1] S_
  h_S_ : 0 < S_.numel

variable [Facts]

def fn_where {F : FTy → Type} [FloatOps F] (arg0 : IVec S2002x128 1) (arg1 : FVec F S_ .f32) (arg2 : FVec F S_ .f32) : FVec F S2002x128 .f32 :=
  let v0 : FVec F S2002x128 .f32 := broadcastInDim S2002x128 ![] bcast_S_S2002x128 arg1
  let v1 : FVec F S2002x128 .f32 := broadcastInDim S2002x128 ![] bcast_S_S2002x128 arg2
  let v2 : FVec F S2002x128 .f32 := select arg0 v0 v1
  v2

def fn {F : FTy → Type} [FloatOps F] (main_arg0 : FVec F S32x2002x2002 .f32) (main_arg1 : FVec F S2002x128 .f32) : IVec S_ 1 :=
  let main_v0 : IVec S2002x128 32 := iotaInDim S2002x128 32 0
  let main_v1 : IVec S2002x128 32 := iotaInDim S2002x128 32 1
  let main_v2 : IVec S2002x128 1 := cmpi .eq main_v0 main_v1
  let main_cst : FVec F S_ .f32 := constant S_ .f32 0x3F800000#32
  let main_cst_0 : FVec F S_ .f32 := constant S_ .f32 0x00000000#32
  let main_v3 : FVec F S2002x128 .f32 := fn_where (F := F) main_v2 main_cst main_cst_0
  let main_v4 : IVec S2002x128 1 := cmpf .oeq main_arg1 main_v3
  let main_c : IVec S_ 1 := constantI S_ 1 1#1
  let main_v5 : IVec S_ 1 := (fun x v => Host.reduce IntOp.andi x v reducesTo_S2002x128_S_d0_1 h_S_) main_v4 main_c
  main_v5
-- ==== Kernel.lean ====
abbrev S32x2002x2002 : Shape := ⟨3, ![32, 2002, 2002]⟩
abbrev S2002x128 : Shape := ⟨2, ![2002, 128]⟩
abbrev S_ : Shape := ⟨0, ![]⟩
abbrev S32x2002x2048 : Shape := ⟨3, ![32, 2002, 2048]⟩
abbrev S32x128 : Shape := ⟨2, ![32, 128]⟩
abbrev S128x128 : Shape := ⟨2, ![128, 128]⟩
abbrev S128 : Shape := ⟨1, ![128]⟩
abbrev S16 : Shape := ⟨1, ![16]⟩
abbrev S1x128x128 : Shape := ⟨3, ![1, 128, 128]⟩
abbrev S1x16 : Shape := ⟨2, ![1, 16]⟩
abbrev S1x128 : Shape := ⟨2, ![1, 128]⟩

abbrev nBuf : Table → Nat
  | .hbm => 5
  | .local .scVector .vmem => 2
  | _ => 0

abbrev bufTy : (tb : Table) → Fin (nBuf tb) → BufTy
  | .hbm, ⟨0, _⟩ => ⟨S32x2002x2002, .f32⟩
  | .hbm, ⟨1, _⟩ => ⟨S2002x128, .f32⟩
  | .hbm, ⟨2, _⟩ => ⟨S_, .f32⟩
  | .hbm, ⟨3, _⟩ => ⟨S32x2002x2048, .f32⟩
  | .hbm, ⟨4, _⟩ => ⟨S32x128, .f32⟩
  | .local .scVector .vmem, ⟨0, _⟩ => ⟨S128x128, .f32⟩
  | .local .scVector .vmem, ⟨1, _⟩ => ⟨S128, .f32⟩
  | _, _ => ⟨S32x2002x2002, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v0_scv : Ref sig .scVector := ⟨.hbm, 3, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let c0_i32_0 : BitVec 32 := 0#32
  ![v1.toNat, 0, 0]
def k0_off2 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_272_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x2002x2002 : Shape := ⟨3, ![32, 2002, 2002]⟩
abbrev S2002x128 : Shape := ⟨2, ![2002, 128]⟩
abbrev S2002 : Shape := ⟨1, ![2002]⟩
abbrev S_ : Shape := ⟨0, ![]⟩
abbrev S2002x1 : Shape := ⟨2, ![2002, 1]⟩
abbrev S2002x2 : Shape := ⟨2, ![2002, 2]⟩
abbrev S32x2002 : Shape := ⟨2, ![32, 2002]⟩
abbrev S32x128 : Shape := ⟨2, ![32, 128]⟩

abbrev nBuf : Space → Nat
  | .hbm => 23
  | .vmem => 0
  | .smem => 0
  | _ => 0

abbrev bufTy : (tb : Table) → Fin (tcTables nBuf tb) → BufTy
  | .hbm, ⟨0, _⟩ => ⟨S32x2002x2002, .f32⟩
  | .hbm, ⟨1, _⟩ => ⟨S2002x128, .f32⟩
  | .hbm, ⟨2, _⟩ => ⟨S2002, .i32⟩
  | .hbm, ⟨3, _⟩ => ⟨S2002, .i32⟩
  | .hbm, ⟨4, _⟩ => ⟨S_, .i32⟩
  | .hbm, ⟨5, _⟩ => ⟨S2002, .i32⟩
  | .hbm, ⟨6, _⟩ => ⟨S2002, .i1⟩
  | .hbm, ⟨7, _⟩ => ⟨S_, .i32⟩
  | .hbm, ⟨8, _⟩ => ⟨S2002, .i32⟩
  | .hbm, ⟨9, _⟩ => ⟨S2002, .i32⟩
  | .hbm, ⟨10, _⟩ => ⟨S2002, .i32⟩
  | .hbm, ⟨11, _⟩ => ⟨S_, .i32⟩
  | .hbm, ⟨12, _⟩ => ⟨S2002, .i32⟩
  | .hbm, ⟨13, _⟩ => ⟨S2002, .i1⟩
  | .hbm, ⟨14, _⟩ => ⟨S_, .i32⟩
  | .hbm, ⟨15, _⟩ => ⟨S2002, .i32⟩
  | .hbm, ⟨16, _⟩ => ⟨S2002, .i32⟩
  | .hbm, ⟨17, _⟩ => ⟨S2002, .i32⟩
  | .hbm, ⟨18, _⟩ => ⟨S2002x1, .i32⟩
  | .hbm, ⟨19, _⟩ => ⟨S2002x1, .i32⟩
  | .hbm, ⟨20, _⟩ => ⟨S2002x2, .i32⟩
  | .hbm, ⟨21, _⟩ => ⟨S32x2002, .f32⟩
  | .hbm, ⟨22, _⟩ => ⟨S32x128, .f32⟩
  | _, _ => ⟨S32x2002x2002, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_c : Ref sig .tc := ⟨.hbm, 4, rfl⟩
abbrev main_call0_v2 : Ref sig .tc := ⟨.hbm, 5, rfl⟩
abbrev main_call0_v3 : Ref sig .tc := ⟨.hbm, 6, rfl⟩
abbrev main_call0_c_0 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_c_1 : Ref sig .tc := ⟨.hbm, 11, rfl⟩
abbrev main_call0_v7 : Ref sig .tc := ⟨.hbm, 12, rfl⟩
abbrev main_call0_v8 : Ref sig .tc := ⟨.hbm, 13, rfl⟩
abbrev main_call0_c_2 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_v0 : Ref sig .tc := ⟨.hbm, 21, rfl⟩
abbrev main_v1 : Ref sig .tc := ⟨.hbm, 22, rfl⟩

abbrev nD : Nat := 1
abbrev τ : Topo := Topo.v7x

variable {F : FTy → Type} [FloatOps F]
-- ==== Proof.Setup.lean ====
/-
  The kernel as a launch of 2 × 16 tasks, and what each task is handed.

  The host writes the input, its rows widened from 2002 to 2048 words by zeros, into the array `main_v0` ("the padded
  input"), then launches the kernel. Task `(c, i)` handles matrix `b = 16 c + i`: it reads the 128 × 128 corner of matrix
  `b` of the padded input and writes row `b` of the result. So a task is handed its corner (to read) and its row of the
  result; it hands its row back, holding the diagonal of the corner. The corners are disjoint, the rows tile the result.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.ValueLayout
public import proofs.«01_k».proof.Proof.Gen.KernelIdeal
public import proofs.«01_k».proof.Proof.Gen.KernelIdeal.Skeleton

@[expose] public section

noncomputable section

namespace Cert.Proof.Diag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

/-! ## The program as the launch theorem sees it -/

/-- The loop and call labels, the launch's description and the definitions it runs. -/
abbrev ΛP : Labels := Pipeline.Sig Λ₀ (Fin 0) fun p => (pcfgs (F := F) p).Adm
abbrev K : SparseCore.Cfg τ sig (ΛP (F := F)) 1 := sc (F := F)
/-- The launch takes two SparseCores, -/
theorem nCore_zero : (K (F := F)).nCore 0 = 2 := rfl
/-- sixteen tasks on each. -/
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct and none of them is a kernel's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds, and the counters of the copies. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The input, the matrix `P`, the constant zero, the padded input, the result. -/
abbrev aLoc (d : Dev nD) : Loc nD τ sig := (SparseCore.T d).loc main_arg0
abbrev pLoc (d : Dev nD) : Loc nD τ sig := (SparseCore.T d).loc main_arg1
abbrev zLoc (d : Dev nD) : Loc nD τ sig := (SparseCore.T d).loc main_cst
abbrev xLoc (d : Dev nD) : Loc nD τ sig := (SparseCore.T d).loc main_v0
abbrev oLoc (d : Dev nD) : Loc nD τ sig := (SparseCore.T d).loc main_v1

local notation "xV" => (Memref.whole Cert.KernelIdeal.main_v0_scv : Memref Cert.KernelIdeal.sig Kind.scVector Space.hbm Cert.KernelIdeal.S32x2002x2048 EltTy.f32)
local notation "oV" => (Memref.whole Cert.KernelIdeal.main_v1_scv : Memref Cert.KernelIdeal.sig Kind.scVector Space.hbm Cert.KernelIdeal.S32x128 EltTy.f32)
local notation "bV" => (Memref.whole Cert.KernelIdeal.cc0_scratch0 : Memref Cert.KernelIdeal.sig Kind.scVector Space.vmem Cert.KernelIdeal.S128x128 EltTy.f32)
local notation "dV" => (Memref.whole Cert.KernelIdeal.cc0_scratch1 : Memref Cert.KernelIdeal.sig Kind.scVector Space.vmem Cert.KernelIdeal.S128 EltTy.f32)

/-- The corner of matrix `b` lies inside the padded input. -/
theorem corner_inb (b : Fin 32) : ∀ a, (![b.val, 0, 0] : Fin 3 → ℕ) a + S1x128x128.size a ≤ S32x2002x2048.size a := by
  revert b; decide
/-- The result's 32 rows split evenly among 32 tasks. -/
theorem odiv : 32 ∣ S32x128.size 0 := ⟨1, rfl⟩

/-- The 128 × 128 corner of matrix `b` of the padded input. -/
abbrev corner (b : Fin 32) : Rect S32x2002x2048 := Rect.unit (s := S32x2002x2048) ![b.val, 0, 0] S1x128x128.size (corner_inb b)
/-- Row `b` of the result. -/
abbrev orow (b : Fin 32) : Rect S32x128 := Rect.part (s := S32x128) (a₀ := 0) odiv b
/-- The indices of the corner, and of the row. -/
abbrev cornerSet (b : Fin 32) : Finset S32x2002x2048.Idx := ((xV).view.slice (corner b)).set
abbrev oRowSet (b : Fin 32) : Finset S32x128.Idx := ((oV).view.slice (orow b)).set

/-- The corner's set of indices, with no view in it. -/
theorem cornerSet_eq (b : Fin 32) : cornerSet b = (corner b).set := by
  show ((View.whole (main_v0_scv : Ref sig .scVector)).slice (corner b)).set = _
  rw [View.set_slice]; exact Finset.map_refl
/-- The row's set of indices, with no view in it. -/
theorem oRowSet_eq (b : Fin 32) : oRowSet b = (orow b).set := by
  show ((View.whole (main_v1_scv : Ref sig .scVector)).slice (orow b)).set = _
  rw [View.set_slice]; exact Finset.map_refl

/-- Two matrices' corners share no index: they differ in the first coordinate. -/
theorem corners_disjoint : ∀ a ∈ (Finset.univ : Finset (Fin 32)), ∀ b ∈ (Finset.univ : Finset (Fin 32)), a ≠ b → Disjoint (cornerSet a) (cornerSet b) := by
  intro a _ b _ h
  rw [cornerSet_eq, cornerSet_eq]
  refine Finset.disjoint_left.mpr fun y ha hb => h (Fin.ext ?_)
  obtain ⟨j, hj, e⟩ := (corner a).mem_set.mp ha 0
  obtain ⟨k, hk, e'⟩ := (corner b).mem_set.mp hb 0
  change j < 1 at hj; change k < 1 at hk
  change (y 0).val = a.val + 1 * j at e; change (y 0).val = b.val + 1 * k at e'
  omega
/-- Two rows of the result share no index, -/
theorem orows_disjoint : ∀ a ∈ (Finset.univ : Finset (Fin 32)), ∀ b ∈ (Finset.univ : Finset (Fin 32)), a ≠ b → Disjoint (oRowSet a) (oRowSet b) :=
  fun a _ b _ h => by rw [oRowSet_eq, oRowSet_eq]; exact Rect.part_disjoint odiv h
/-- and the rows are the whole result. -/
theorem orows_cover : (Finset.univ : Finset (Fin 32)).biUnion oRowSet = Finset.univ :=
  (Finset.biUnion_congr rfl fun i _ => oRowSet_eq i).trans (Rect.biUnion_part odiv)

/-- The result held whole is its rows held one by one. -/
theorem oPts_rows (d : Dev nD) (f : Buf (Elt F) (oLoc d)) :
    (oLoc d ↦{fullShare} f : sProp 𝕄) = bigSep Finset.univ fun b : Fin 32 => oLoc d ↦[oRowSet b]{fullShare} f := by
  rw [← pointsTo_biUnion Finset.univ (ℓ := oLoc d) oRowSet orows_disjoint, orows_cover]; try rfl

/-- The padded input held whole yields the corners, held one by one. -/
theorem xPts_corners (d : Dev nD) (f : Buf (Elt F) (xLoc d)) :
    (xLoc d ↦{fullShare} f : sProp 𝕄) ⊢ bigSep Finset.univ fun b : Fin 32 => xLoc d ↦[cornerSet b]{fullShare} f := by
  rw [← pointsTo_biUnion Finset.univ (ℓ := xLoc d) cornerSet corners_disjoint]
  iintro H
  ihave H' := (pointsTo_split_subset (q := fullShare) (f := f) (S := Finset.univ) (Finset.subset_univ (Finset.univ.biUnion cornerSet))).1 $$ H
  icases H' with ⟨H, -⟩
  iexact H

/-! ## What is in the arrays -/

variable [FloatOps F]

/-- The padded input: what the host's padding leaves, each row of 2002 words followed by 46 zeros. -/
def padX (d : Dev nD) : S32x2002x2048.Idx → Elt F .f32 :=
  pad S32x2002x2048 ![0, 0, 0] ![0, 0, 46] ![0, 0, 0] (m (aLoc d) : S32x2002x2002.Idx → Elt F .f32)
    (constant S_ .f32 0x00000000#32) pads_S32x2002x2002_S32x2002x2048_000_000_0460 h_S_

/-- Place `(b, j, j)` of the padded input, for place `(b, j)` of the result. -/
def diagIdx (y : S32x128.Idx) : S32x2002x2048.Idx :=
  ix3 (y 0) (⟨(y 1).val, lt_of_lt_of_le (y 1).isLt (by decide)⟩ : Fin 2002) (⟨(y 1).val, lt_of_lt_of_le (y 1).isLt (by decide)⟩ : Fin 2048)

/-- The result: place `(b, j)` holds the padded input's place `(b, j, j)`. -/
def outF (d : Dev nD) : Buf (Elt F) (oLoc d) := fun y : S32x128.Idx => padX m d (diagIdx y)

/-! ## What the handshakes carry -/

/-- Matrix `b`'s corner held, and row `b` of the result held at contents `f`. -/
abbrev xPts (d : Dev nD) (b : Fin 32) : sProp 𝕄 := xLoc d ↦[cornerSet b]{fullShare} padX m d
abbrev oPts (d : Dev nD) (b : Fin 32) (f : Buf (Elt F) (oLoc d)) : sProp 𝕄 := oLoc d ↦[oRowSet b]{fullShare} f

/-- The matrix that task `(c, i)` handles. -/
def task (c : Fin 2) (i : Fin 16) : Fin 32 := ⟨16 * c.val + i.val, by omega⟩

/-- A task takes its corner and its row of the result, and brings the row back holding the corner's diagonal; a
    SparseCore takes and brings back what its sixteen tasks do. -/
def P : (K (F := F)).Pay (nD := nD) (Val := Elt F) (Name := ℕ) (U := UU) where
  st := fun q d c => match q with
    | 0 => bigSep Finset.univ fun i : Fin 16 => iprop(xPts m d (task (Fin.cast nCore_zero c) i) ∗ oPts d (task (Fin.cast nCore_zero c) i) (m (oLoc d)))
  dn := fun q d c => match q with
    | 0 => bigSep Finset.univ fun i : Fin 16 => oPts d (task (Fin.cast nCore_zero c) i) (outF m d)
  go := fun q d c i => match q with
    | 0 => iprop(xPts m d (task (Fin.cast nCore_zero c) (Fin.cast nSub_zero i)) ∗ oPts d (task (Fin.cast nCore_zero c) (Fin.cast nSub_zero i)) (m (oLoc d)))
  td := fun q d c i => match q with
    | 0 => oPts d (task (Fin.cast nCore_zero c) (Fin.cast nSub_zero i)) (outF m d)
  x := fun _ _ => iprop(emp)

instance P_storable : (P (F := F) m).IsStorable where
  st q d c := match q with
    | 0 => (inferInstance : BI.Storable (upEmb : UEmb _ 𝕄)
      (bigSep Finset.univ fun i : Fin 16 => iprop(xPts m d (task (Fin.cast nCore_zero c) i) ∗ oPts d (task (Fin.cast nCore_zero c) i) (m (oLoc d)))))
  dn q d c := match q with
    | 0 => (inferInstance : BI.Storable (upEmb : UEmb _ 𝕄) (bigSep Finset.univ fun i : Fin 16 => oPts d (task (Fin.cast nCore_zero c) i) (outF m d)))
  go q d c i := match q with
    | 0 => (inferInstance : BI.Storable (upEmb : UEmb _ 𝕄)
      iprop(xPts m d (task (Fin.cast nCore_zero c) (Fin.cast nSub_zero i)) ∗ oPts d (task (Fin.cast nCore_zero c) (Fin.cast nSub_zero i)) (m (oLoc d))))
  td q d c i := match q with
    | 0 => (inferInstance : BI.Storable (upEmb : UEmb _ 𝕄) (oPts d (task (Fin.cast nCore_zero c) (Fin.cast nSub_zero i)) (outF m d)))

/-- A SparseCore's operands are its tasks' operands, and so are its results. -/
theorem vecSplit : (K (F := F)).VecSplit' (P m) 0 := by
  intro d c
  show (bigSep Finset.univ fun i : Fin 16 => iprop(xPts m d (task (Fin.cast nCore_zero c) i) ∗ oPts d (task (Fin.cast nCore_zero c) i) (m (oLoc d))))
    ⊢ |={Set.univ}=> iprop((bigSep Finset.univ fun i : Fin 16 => iprop(xPts m d (task (Fin.cast nCore_zero c) i) ∗ oPts d (task (Fin.cast nCore_zero c) i) (m (oLoc d))))
      ∗ ((bigSep Finset.univ fun i : Fin 16 => oPts d (task (Fin.cast nCore_zero c) i) (outF m d))
        -∗ (bigSep Finset.univ fun i : Fin 16 => oPts d (task (Fin.cast nCore_zero c) i) (outF m d))))
  iintro H; imodintro
  isplitl [H]; · iexact H
  iintro H; iexact H

end Cert.Proof.Diag

end
-- ==== Proof.Lanes.lean ====
/-
  Sixteen lanes of the diagonal from sixteen rows. The kernel takes row `16 j + k` of the corner, columns
  `16 j … 16 j + 15`, for each `k` below 16, and keeps of it the lane `k` alone, by a select on the lane number; the
  sixteen selects one over another leave a vector whose lane `k` is the corner at `(16 j + k, 16 j + k)`.
-/
module

public import proofs.«01_k».proof.Proof.Setup

@[expose] public section

noncomputable section

namespace Cert.Proof.Diag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "xV" => (Memref.whole Cert.KernelIdeal.main_v0_scv : Memref Cert.KernelIdeal.sig Kind.scVector Space.hbm Cert.KernelIdeal.S32x2002x2048 EltTy.f32)
local notation "oV" => (Memref.whole Cert.KernelIdeal.main_v1_scv : Memref Cert.KernelIdeal.sig Kind.scVector Space.hbm Cert.KernelIdeal.S32x128 EltTy.f32)
local notation "bV" => (Memref.whole Cert.KernelIdeal.cc0_scratch0 : Memref Cert.KernelIdeal.sig Kind.scVector Space.vmem Cert.KernelIdeal.S128x128 EltTy.f32)
local notation "dV" => (Memref.whole Cert.KernelIdeal.cc0_scratch1 : Memref Cert.KernelIdeal.sig Kind.scVector Space.vmem Cert.KernelIdeal.S128 EltTy.f32)

variable [FloatOps F]

/-- One select: on lane `c` the row's word, elsewhere what was there. -/
def keepLane (c : BitVec 32) (row acc : S16.Idx → F .f32) : S16.Idx → F .f32 :=
  select (cmpi .eq (iota .scVector S16 32 [0] iota_S16_d0_w32_scVector) (broadcast S16 c)) row acc

/-- A row of sixteen words as a vector. -/
abbrev asLanes (x : S1x16.Idx → F .f32) : S16.Idx → F .f32 := shapeCast S16 x shapeCasts_S1x16_S16

/-- The sixteen selects over zeros, rows `r 0 … r 15`. -/
def pickLanes (r : Fin 16 → S1x16.Idx → F .f32) : S16.Idx → F .f32 :=
  keepLane 15#32 (asLanes (r 15)) <| keepLane 14#32 (asLanes (r 14)) <| keepLane 13#32 (asLanes (r 13)) <|
  keepLane 12#32 (asLanes (r 12)) <| keepLane 11#32 (asLanes (r 11)) <| keepLane 10#32 (asLanes (r 10)) <|
  keepLane 9#32 (asLanes (r 9)) <| keepLane 8#32 (asLanes (r 8)) <| keepLane 7#32 (asLanes (r 7)) <|
  keepLane 6#32 (asLanes (r 6)) <| keepLane 5#32 (asLanes (r 5)) <| keepLane 4#32 (asLanes (r 4)) <|
  keepLane 3#32 (asLanes (r 3)) <| keepLane 2#32 (asLanes (r 2)) <| keepLane 1#32 (asLanes (r 1)) <|
  keepLane 0#32 (asLanes (r 0)) (broadcast S16 (Scalar.ofBits .f32 0x00000000#32))

/-- A select at lane `k`. -/
theorem keepLane_apply (c : BitVec 32) (row acc : S16.Idx → F .f32) (k : Fin 16) :
    keepLane c row acc (ix1 k) = if BitVec.ofNat 32 k.val = c then row (ix1 k) else acc (ix1 k) := by
  have h : keepLane c row acc (ix1 k) = Scalar.select (BitVec.ofBool (BitVec.ofNat 32 (0 * 16 + k.val) == c)) (row (ix1 k)) (acc (ix1 k)) := rfl
  rw [h, Nat.zero_mul, Nat.zero_add]
  by_cases e : BitVec.ofNat 32 k.val = c
  · rw [if_pos e, e, beq_self_eq_true]; rfl
  · rw [if_neg e, beq_false_of_ne e]; rfl

/-- Lane `k` of the sixteen selects is row `k` at `k`. -/
theorem pickLanes_apply (r : Fin 16 → S1x16.Idx → F .f32) (k : Fin 16) : pickLanes r (ix1 k) = r k (ix2 (0 : Fin 1) k) := by
  have h : ∀ i : Fin 16, asLanes (r i) (ix1 k) = r i (ix2 (0 : Fin 1) k) := fun i =>
    ValueIdx.shapeCast_1a_a_apply (r i) shapeCasts_S1x16_S16 k
  simp only [pickLanes, keepLane_apply, h]
  fin_cases k <;> rfl

/-! ## The rows the kernel loads -/

/-- Row `16 j + k`, columns from `16 j`, lies inside the corner. -/
theorem row_inb (j : Fin 8) (k : Fin 16) : ∀ a, (![16 * j.val + k.val, 16 * j.val] : Fin 2 → ℕ) a + S1x16.size a ≤ S128x128.size a := by
  revert j k; decide

/-- The load of row `16 j + k`, columns `16 j … 16 j + 15`, of the corner in its scratch. -/
def rowLoad (B : S128x128.Idx → F .f32) (j : Fin 8) (k : Fin 16) : S1x16.Idx → F .f32 :=
  View.readAt (Elt F) (bV).view (Rect.unit (s := S128x128) ![16 * j.val + k.val, 16 * j.val] S1x16.size (row_inb j k)).toLoadRect B

/-- Position `16 j + k` of the diagonal. -/
def pos (j : Fin 8) (k : Fin 16) : Fin 128 := ⟨16 * j.val + k.val, by omega⟩

/-- The load's word `k` is the corner at `(16 j + k, 16 j + k)`. -/
theorem rowLoad_apply (B : S128x128.Idx → F .f32) (j : Fin 8) (k : Fin 16) :
    rowLoad B j k (ix2 (0 : Fin 1) k) = B (ix2 (pos j k) (pos j k)) := by
  show B _ = B _
  congr 1
  funext a
  apply Fin.ext
  match a with
  | ⟨0, _⟩ => show 16 * j.val + k.val + 1 * 0 = 16 * j.val + k.val; omega
  | ⟨1, _⟩ => show 16 * j.val + 1 * k.val = 16 * j.val + k.val; omega

/-- The stored vector `j`: lane `k` is the corner at `(16 j + k, 16 j + k)`. -/
theorem pick_rows (B : S128x128.Idx → F .f32) (j : Fin 8) (k : Fin 16) :
    pickLanes (rowLoad B j) (ix1 k) = B (ix2 (pos j k) (pos j k)) :=
  (pickLanes_apply _ k).trans (rowLoad_apply B j k)

/-! ## The eight stores -/

/-- Sixteen words from word `16 j` lie inside the 128-word scratch. -/
theorem store_inb (j : Fin 8) : ∀ a, (![16 * j.val] : Fin 1 → ℕ) a + S16.size a ≤ S128.size a := by
  revert j; decide

/-- Store `j`: vector `j` to words `16 j … 16 j + 15`. -/
def diagPiece (B : S128x128.Idx → F .f32) (j : Fin 8) : View.Piece (Elt F) S128 .f32 :=
  ⟨Rect.unit (s := S128) ![16 * j.val] S16.size (store_inb j), pickLanes (rowLoad B j)⟩

/-- The eight stores, the last first. -/
def diagPieces (B : S128x128.Idx → F .f32) : List (View.Piece (Elt F) S128 .f32) :=
  [diagPiece B 7, diagPiece B 6, diagPiece B 5, diagPiece B 4, diagPiece B 3, diagPiece B 2, diagPiece B 1, diagPiece B 0]

/-- Store `j` is one of the eight, -/
theorem mem_diagPieces (B : S128x128.Idx → F .f32) (j : Fin 8) : diagPiece B j ∈ diagPieces B := by
  fin_cases j <;> simp [diagPieces]

/-- and the eight are all. -/
theorem exists_of_mem_diagPieces (B : S128x128.Idx → F .f32) (p : View.Piece (Elt F) S128 .f32) (h : p ∈ diagPieces B) :
    ∃ j, p = diagPiece B j := by
  simp only [diagPieces, List.mem_cons, List.not_mem_nil, or_false] at h
  rcases h with h | h | h | h | h | h | h | h
  exacts [⟨_, h⟩, ⟨_, h⟩, ⟨_, h⟩, ⟨_, h⟩, ⟨_, h⟩, ⟨_, h⟩, ⟨_, h⟩, ⟨_, h⟩]

/-- Store `j` puts its lane `k` at word `16 j + k`. -/
theorem diagPiece_emb (B : S128x128.Idx → F .f32) (j : Fin 8) (k : Fin 16) : (diagPiece B j).1.emb (ix1 k) = ix1 (pos j k) := by
  funext a
  apply Fin.ext
  match a with
  | ⟨0, _⟩ => show 16 * j.val + 1 * k.val = 16 * j.val + k.val; omega

/-- What the stores put at word `p`: the corner at `(p, p)`. -/
def diagOf (B : S128x128.Idx → F .f32) : S128.Idx → F .f32 := fun y => B (ix2 (y 0) (y 0))

/-- Each store puts the diagonal. -/
theorem diagPiece_value (B : S128x128.Idx → F .f32) (j : Fin 8) (x : S16.Idx) :
    (diagPiece B j).2 x = diagOf B ((diagPiece B j).1.emb x) := by
  obtain ⟨k, rfl⟩ : ∃ k : Fin 16, x = ix1 k := ⟨x 0, funext fun a => by match a with | ⟨0, _⟩ => rfl⟩
  rw [diagPiece_emb]
  exact pick_rows B j k

/-- Some store puts word `p`. -/
theorem diagPiece_cover (B : S128x128.Idx → F .f32) (p : Fin 128) : ∃ q ∈ diagPieces B, (ix1 p : S128.Idx) ∈ q.1.set := by
  refine ⟨diagPiece B ⟨p.val / 16, by omega⟩, mem_diagPieces B _, ?_⟩
  refine ((diagPiece B ⟨p.val / 16, by omega⟩).1.mem_set).mpr fun a => ⟨p.val % 16, ?_, ?_⟩
  · match a with
    | ⟨0, _⟩ => exact Nat.mod_lt _ (by decide)
  · match a with
    | ⟨0, _⟩ => show p.val = 16 * (p.val / 16) + 1 * (p.val % 16); omega

/-- After the eight stores word `p` of the scratch is the corner at `(p, p)`. -/
theorem stored_diag {κ : Kind} {sp : Space} (v : View sig κ sp S128 .f32) (f : v.ty.Contents (Elt F)) (B : S128x128.Idx → F .f32)
    (p : Fin 128) : v.read (Elt F) (v.writes (Elt F) f (diagPieces B)) (ix1 p) = diagOf B (ix1 p) :=
  View.read_writes_apply_of_pieces v f (diagOf B) (diagPieces B)
    (fun q hq => by obtain ⟨j, rfl⟩ := exists_of_mem_diagPieces B q hq; exact diagPiece_value B j) (ix1 p) (diagPiece_cover B p)

end Cert.Proof.Diag

end
-- ==== Proof.Tile.lean ====
/-
  One task of the kernel, run: the corner of its matrix copied in, the diagonal gathered into the 128-word scratch, and
  the scratch copied out to the task's row of the result.
-/
module

public import proofs.«01_k».proof.Proof.Lanes

@[expose] public section

noncomputable section

namespace Cert.Proof.Diag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S32x2002x2048 EltTy.f32)
local notation "oV" => (Memref.whole Cert.KernelIdeal.main_v1_scv : Memref Cert.KernelIdeal.sig Kind.scVector Space.hbm Cert.KernelIdeal.S32x128 EltTy.f32)
local notation "bV" => (Memref.whole Cert.KernelIdeal.cc0_scratch0 : Memref Cert.KernelIdeal.sig Kind.scVector Space.vmem Cert.KernelIdeal.S128x128 EltTy.f32)
local notation "dV" => (Memref.whole Cert.KernelIdeal.cc0_scratch1 : Memref Cert.KernelIdeal.sig Kind.scVector Space.vmem Cert.KernelIdeal.S128 EltTy.f32)

variable (m : (ℓ : Loc nD τ sig) → Buf (Elt F) ℓ)

variable (d : Dev nD) (L : grid0.Coords)

/-- The SparseCore and the tile at grid place `L`. -/
abbrev cV (L : grid0.Coords) : Fin τ.nSC := (L 0).castLE hcore0
abbrev jV (L : grid0.Coords) : Fin τ.nSub := (L 1).castLE hsub0
/-- The grid is 2 -/
theorem bound_zero : grid0.bound 0 = 2 := rfl
/-- by 16. -/
theorem bound_one : grid0.bound 1 = 16 := rfl
/-- The matrix handled at grid place `L`. -/
abbrev bL (L : grid0.Coords) : Fin 32 := task (Fin.cast bound_zero (L 0)) (Fin.cast bound_one (L 1))

/-- The corner and the row as the task's copies address them. -/
abbrev cornerK (L : grid0.Coords) : Rect S32x2002x2048 := Rect.unit (s := S32x2002x2048) (k0_off1 L) S1x128x128.size (k0_off1_inb L)
abbrev orowK (L : grid0.Coords) : Rect S32x128 := Rect.unit (s := S32x128) (k0_off2 L) S1x128.size (k0_off2_inb L)
abbrev xCornerK (L : grid0.Coords) : Memref sig .scVector .hbm S128x128 .f32 := ((xV).slice (cornerK L) (fun _ => rfl)).squeeze S128x128 squeezes_S1x128x128_S128x128
abbrev oRowK (L : grid0.Coords) : Memref sig .scVector .hbm S128 .f32 := ((oV).slice (orowK L) (fun _ => rfl)).squeeze S128 squeezes_S1x128_S128

/-- The copy in reads the task's corner, -/
theorem cornerK_eq : cornerK L = corner (bL L) := by
  unfold cornerK corner
  congr 1
  rw [k0_off1_eq]; rfl
/-- the copy out writes the task's row. -/
theorem orowK_eq : orowK L = orow (bL L) := by
  unfold orowK orow Rect.part Rect.block
  congr 1 <;> funext a
  · rw [k0_off2_eq]
    match a with
    | 0 => simp [Shape.partIx, Shape.partSize, task]; rfl
    | 1 => simp [Shape.partIx, Shape.partSize]
  · match a with
    | 0 => simp [Shape.partSize]
    | 1 => simp [Shape.partSize]

/-- The copy in touches the indices of the task's corner, -/
theorem set_xCornerK : (xCornerK L).view.set = cornerSet (bL L) := by
  show (((xV).view.slice (cornerK L)).reshape S128x128 squeezes_S1x128x128_S128x128.numel_eq).set = ((xV).view.slice (corner (bL L))).set
  rw [View.set_reshape]
  exact cornerK_eq L ▸ rfl
/-- the copy out those of the task's row. -/
theorem set_oRowK : (oRowK L).view.set = oRowSet (bL L) := by
  show (((oV).view.slice (orowK L)).reshape S128 squeezes_S1x128_S128.numel_eq).set = ((oV).view.slice (orow (bL L))).set
  rw [View.set_reshape]
  exact orowK_eq L ▸ rfl

/-- So holding what the copy in reads is holding the corner, -/
theorem pts_xCornerK (f : Buf (Elt F) (xLoc d)) :
    ((xCornerK L).view.loc (V d (cV L) (jV L)) ↦[(xCornerK L).view.set]{fullShare} f : sProp 𝕄) = xLoc d ↦[cornerSet (bL L)]{fullShare} f := by
  rw [set_xCornerK]
/-- and holding what the copy out writes is holding the row. -/
theorem pts_oRowK (f : Buf (Elt F) (oLoc d)) :
    ((oRowK L).view.loc (V d (cV L) (jV L)) ↦[(oRowK L).view.set]{fullShare} f : sProp 𝕄) = oLoc d ↦[oRowSet (bL L)]{fullShare} f := by
  rw [set_oRowK]
/-- The corner's scratch held through its view is the buffer held, -/
theorem pts_bV (f : Buf (Elt F) ((V d (cV L) (jV L)).loc cc0_scratch0)) :
    ((bV).view.loc (V d (cV L) (jV L)) ↦{fullShare} f : sProp 𝕄) = (V d (cV L) (jV L)).loc cc0_scratch0 ↦{fullShare} f := rfl
/-- and so is the diagonal's. -/
theorem pts_dV (f : Buf (Elt F) ((V d (cV L) (jV L)).loc cc0_scratch1)) :
    ((dV).view.loc (V d (cV L) (jV L)) ↦{fullShare} f : sProp 𝕄) = (V d (cV L) (jV L)).loc cc0_scratch1 ↦{fullShare} f := rfl

/-- The semaphore of the copy in, and of the copy out. -/
abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)

/-- The two semaphores the copies signal are among the subcore's own. -/
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-- The corner as the copy in reads it: place `(p, q)` is the padded input's `(b, p, q)`. -/
theorem xCornerK_emb (p q : Fin 128) :
    (xCornerK L).view.emb (ix2 p q) = ix3 (bL L) (⟨p.val, by omega⟩ : Fin 2002) (⟨q.val, by omega⟩ : Fin 2048) := by
  have h : (xCornerK L).view.emb (ix2 p q)
      = (cornerK L).emb (Shape.reshapeEquiv squeezes_S1x128x128_S128x128.numel_eq (ix2 p q)) := rfl
  rw [h, ValueIdx.reshapeEquiv_ix2_1ab]
  funext a
  apply Fin.ext
  match a with
  | ⟨0, _⟩ => show (k0_off1 L) 0 + 1 * 0 = _; rw [k0_off1_eq]; rfl
  | ⟨1, _⟩ => show (k0_off1 L) 1 + 1 * p.val = p.val; rw [k0_off1_eq]; show 0 + 1 * p.val = p.val; omega
  | ⟨2, _⟩ => show (k0_off1 L) 2 + 1 * q.val = q.val; rw [k0_off1_eq]; show 0 + 1 * q.val = q.val; omega

/-- The row as the copy out writes it: place `p` is the result's `(b, p)`. -/
theorem oRowK_emb (p : Fin 128) : (oRowK L).view.emb (ix1 p) = ix2 (bL L) p := by
  have h : (oRowK L).view.emb (ix1 p) = (orowK L).emb (Shape.reshapeEquiv squeezes_S1x128_S128.numel_eq (ix1 p)) := rfl
  have hr : Shape.reshapeEquiv squeezes_S1x128_S128.numel_eq (ix1 p) = ix2 (⟨0, Nat.one_pos⟩ : Fin 1) p :=
    Shape.reshapeEquiv_eq_of_rowMajor _ (by
      rw [Shape.rowMajor_val_two, Shape.rowMajor_val_one]
      show 0 * 128 + p.val = p.val
      omega)
  rw [h, hr]
  funext a
  apply Fin.ext
  match a with
  | ⟨0, _⟩ => show (k0_off2 L) 0 + 1 * 0 = _; rw [k0_off2_eq]; rfl
  | ⟨1, _⟩ => show (k0_off2 L) 1 + 1 * p.val = p.val; rw [k0_off2_eq]; show 0 + 1 * p.val = p.val; omega

/-- A row written with the diagonal of the corner holds what the result holds there. -/
theorem row_value (f : Buf (Elt F) (oLoc d)) (pay : S128.Idx → F .f32)
    (hpay : ∀ p : Fin 128, pay (ix1 p) = padX m d ((xCornerK L).view.emb (ix2 p p))) (y : S32x128.Idx) (hy : y ∈ (oRowK L).view.set) :
    (oRowK L).view.writes (Elt F) f [⟨Rect.whole S128, pay⟩] y = outF m d y := by
  obtain ⟨x, -, rfl⟩ := Finset.mem_map.mp hy
  obtain ⟨p, rfl⟩ : ∃ p : Fin 128, x = ix1 p := ⟨x 0, funext fun a => by match a with | ⟨0, _⟩ => rfl⟩
  have h : (oRowK L).view.writes (Elt F) f [⟨Rect.whole S128, pay⟩] ((oRowK L).view.emb (ix1 p)) = pay (ix1 p) :=
    View.read_writes_cons_hit (oRowK L).view f (Rect.whole S128) pay [] (ix1 p) (ix1 p) (Rect.emb_eq_of_coords _ _ _ fun a => by
      show _ = 0 + 1 * _; omega)
  rw [h, hpay, xCornerK_emb, oRowK_emb]
  rfl

set_option maxHeartbeats 4000000 in
/-- The task at grid place `L`, from its corner and its row to its row holding the corner's diagonal. -/
theorem tile_body (hF : (K (F := F)).Facts) (O : CellTallies nD τ sig (HIx 1)) (W : Waits sig (HIx 1)) (hO : ∀ g, O g none = 0) :
    iprop(levAts (K (F := F)).L (K (F := F)).lev ∗ emp
        ∗ (xPts m d (bL L) ∗ oPts d (bL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__diag_gather_body L xV (Memref.isWhole_whole _) oV (Memref.isWhole_whole _)
            bV (Memref.isWhole_whole _) dV (Memref.isWhole_whole _) cc0_scratch2 cc0_scoped0)
          fun _ => iprop(oPts d (bL L) (outF m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__diag_gather_body_eq_skeleton]; unfold cc0__diag_gather_body_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fb, Hb⟩, ⟨%fd, Hd⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xCornerK (F := F) d L _).symm) $$ Hx
  ihave Ho' := (Entails.of_eq (pts_oRowK (F := F) d L _).symm) $$ Ho
  ihave Hb' := (Entails.of_eq (pts_bV (F := F) d L _).symm) $$ Hb
  ihave Hd' := (Entails.of_eq (pts_dV (F := F) d L _).symm) $$ Hd
  sl_exec
  sl_step
  have hpieces : tile_body.sl.Hd'_8 m d L fb = diagPieces (View.write (Elt F) (bV).view fb (tile_body.sl.dma0 m d L) Finset.univ) := by
    unfold tile_body.sl.Hd'_8 diagPieces diagPiece pickLanes keepLane
    unfold k0_pay35 tile_body.sl.v710 k0_pay27 k0_pay23 k0_pay20 k0_pay14 k0_pay10 k0_pay5
    iterate 8 refine congrArg₂ List.cons (congrArg (Sigma.mk _) ((shapeCast_self _ _).trans rfl)) ?_
    rfl
  have hpay : ∀ p : Fin 128, tile_body.sl.dma144 m d L fb fd (ix1 p) = padX m d ((xCornerK L).view.emb (ix2 p p)) := fun p => by
    have h1 : tile_body.sl.dma144 m d L fb fd (ix1 p)
        = View.read (Elt F) (dV).view ((dV).view.writes (Elt F) fd (tile_body.sl.Hd'_8 m d L fb)) (ix1 p) := rfl
    rw [h1, hpieces]
    refine (stored_diag (dV).view fd _ p).trans ?_
    rw [View.write_whole_univ]
    rfl
  isplitl [Ho']
  · iapply (Entails.of_eq (pts_oRowK (F := F) d L _))
    iapply (Entails.of_eq (pointsTo_congr (fun y hy => row_value m d L _ _ hpay y hy)))
    iexact Ho'
  isplitl [Hb' Hd' Hbufs]
  · isplitl [Hb']; · iexists _; iexact Hb'
    isplitl [Hd']; · iexists _; iexact Hd'
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Cert.Proof.Diag

end
-- ==== Proof.Launch.lean ====
/-
  The launch. Each tile meets its task's contract; the host's padding and the call are run on the TensorCore; at the end
  the result holds the diagonals, both arguments hold what they held, and every semaphore is at zero.
-/
module

public import proofs.«01_k».proof.Proof.Tile

@[expose] public section

noncomputable section

namespace Cert.Proof.Diag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Idealize.ShloMosaic.StableHlo

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S32x2002x2048 EltTy.f32)
local notation "oV" => (Memref.whole Cert.KernelIdeal.main_v1_scv : Memref Cert.KernelIdeal.sig Kind.scVector Space.hbm Cert.KernelIdeal.S32x128 EltTy.f32)
local notation "bV" => (Memref.whole Cert.KernelIdeal.cc0_scratch0 : Memref Cert.KernelIdeal.sig Kind.scVector Space.vmem Cert.KernelIdeal.S128x128 EltTy.f32)
local notation "dV" => (Memref.whole Cert.KernelIdeal.cc0_scratch1 : Memref Cert.KernelIdeal.sig Kind.scVector Space.vmem Cert.KernelIdeal.S128 EltTy.f32)

variable (m : (ℓ : Loc nD τ sig) → Buf (Elt F) ℓ) (ρ : Dev nD → PrngReg)

/-! ## Each tile meets its contract -/

section Tiles

variable [FloatOps F]

/-- Grid place `(c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- What tile `(c, s)` runs for the call: the kernel's body at that grid place. -/
theorem defs₀_vector (c : Fin τ.nSC) (s : Fin τ.nSub) :
    defs₀ (F := F) (.scVector c s) 0 ()
      = SparseCore.onTile hcore0 hsub0 (fun c s => cc0__diag_gather_body (coordsV c s)
          xV (Memref.isWhole_whole _) oV (Memref.isWhole_whole _)
          bV (Memref.isWhole_whole _) dV (Memref.isWhole_whole _) cc0_scratch2 cc0_scoped0) ⟨⟩ c s := rfl

omit [FloatOps F] in
/-- A task that made no wait of the launch's own satisfies the contract's bound on its waits. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the launch meets its contract. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Tiles

/-! ## The launch's own ghost state -/

/-- The handshake tokens at launch. -/
def u₀ : UU := (initOf (K (F := F)).hsCells (K (F := F)).hsToks, 1)

/-- A product of nothings is nothing. -/
theorem bigSep_emp' {I : Type} (s : Finset I) : (bigSep s fun _ => iprop(emp)) = (iprop(emp) : sProp 𝕄) := bigSep_emp_const s

variable [FloatOps F]

/-- The launch's ghost state gives the handshakes their tokens; nothing else is asked of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The arrays dealt to the tasks -/

/-- The 32 matrices are the tasks of the two SparseCores, sixteen each. -/
def taskEquiv : Fin 2 × Fin 16 ≃ Fin 32 where
  toFun p := task p.1 p.2
  invFun b := (⟨b.val / 16, by omega⟩, ⟨b.val % 16, by omega⟩)
  left_inv := by decide
  right_inv := by decide

omit [FloatOps F] in
/-- A product over the matrices is a product over SparseCores and tiles. -/
theorem bigSep_tasks (Φ : Fin 32 → sProp 𝕄) :
    bigSep Finset.univ Φ = bigSep Finset.univ fun c : Fin 2 => bigSep Finset.univ fun i : Fin 16 => Φ (task c i) :=
  (bigSep_univ_equiv taskEquiv Φ).trans (bigSep_univ_prod fun p => Φ (taskEquiv p))

/-- What the call takes: every corner of the padded input, and the result. -/
theorem st0 (d : Dev nD) :
    iprop((xLoc d ↦{fullShare} (padX m d : Buf (Elt F) (xLoc d))) ∗ (oLoc d ↦{fullShare} m (oLoc d)))
      ⊢ (bigSep Finset.univ fun c : Fin ((K (F := F)).nCore 0) => (P m).st 0 d c : sProp 𝕄) := by
  show _ ⊢ bigSep (Finset.univ : Finset (Fin 2)) fun c => bigSep (Finset.univ : Finset (Fin 16)) fun i =>
    iprop(xPts m d (task c i) ∗ oPts d (task c i) (m (oLoc d)))
  rw [← bigSep_tasks fun b => iprop(xPts m d b ∗ oPts d b (m (oLoc d))), oPts_rows, bigSep_sep']
  iintro ⟨Hx, Ho⟩
  isplitl [Hx]; · iapply (xPts_corners d _); iexact Hx
  iexact Ho

/-- What the call hands back: the result, holding the diagonals. -/
theorem dn0 (d : Dev nD) :
    (bigSep Finset.univ fun c : Fin ((K (F := F)).nCore 0) => (P m).dn 0 d c : sProp 𝕄) = (oLoc d ↦{fullShare} outF m d) := by
  show (bigSep (Finset.univ : Finset (Fin 2)) fun c => bigSep (Finset.univ : Finset (Fin 16)) fun i => oPts d (task c i) (outF m d)) = _
  rw [← bigSep_tasks fun b => oPts d b (outF m d), oPts_rows]

/-! ## The host's program -/

/-- The input, the matrix `P`, the zero, the padded input and the result, as the device's arrays. -/
abbrev a' : DevRef τ sig := Proc.devRef .tc (main_arg0 : Ref sig .tc)
abbrev p' : DevRef τ sig := Proc.devRef .tc (main_arg1 : Ref sig .tc)
abbrev z' : DevRef τ sig := Proc.devRef .tc (main_cst : Ref sig .tc)
abbrev x' : DevRef τ sig := Proc.devRef .tc (main_v0 : Ref sig .tc)
abbrev o' : DevRef τ sig := Proc.devRef .tc (main_v1 : Ref sig .tc)

/-- The constant zero, -/
abbrev opZero : HloOp τ sig (Elt F) := StableHlo.nullary main_cst (constant S_ .f32 0x00000000#32)
/-- and the input's rows widened by it. -/
abbrev opPad : HloOp τ sig (Elt F) :=
  StableHlo.binary main_arg0 main_cst main_v0
    ((fun x v => pad S32x2002x2048 ![0, 0, 0] ![0, 0, 46] ![0, 0, 0] x v pads_S32x2002x2002_S32x2002x2048_000_000_0460 h_S_) :
      (⟨S32x2002x2002, .f32⟩ : BufTy).Contents (Elt F) → (⟨S_, .f32⟩ : BufTy).Contents (Elt F) → (⟨S32x2002x2048, .f32⟩ : BufTy).Contents (Elt F))

/-- The five arrays of the host's program. -/
abbrev S5 : Finset (DevRef τ sig) := {a', p', z', x', o'}

omit [FloatOps F] in
/-- The five arrays held are each of them held. -/
theorem held_S5 (d : Dev nD) (W : Valuation τ sig (Elt F)) :
    (held (T d) S5 W : sProp 𝕄) = iprop((aLoc d ↦{fullShare} W a') ∗ (pLoc d ↦{fullShare} W p') ∗ (zLoc d ↦{fullShare} W z')
      ∗ (xLoc d ↦{fullShare} W x') ∗ oLoc d ↦{fullShare} W o') := by
  unfold held S5
  rw [SparseCore.bigSep_insert' (by decide), SparseCore.bigSep_insert' (by decide), SparseCore.bigSep_insert' (by decide),
    SparseCore.bigSep_insert' (by decide), bigSep_singleton]

/-- The arrays at launch. -/
def V0 (d : Dev nD) : Valuation τ sig (Elt F) := fun b => m (d, b)

omit [FloatOps F] in
/-- The launch hands the TensorCore those five arrays. -/
theorem unscoped_held (d : Dev nD) : (unscopedBufs d (fun b => m ((SparseCore.T d).loc b)) : sProp 𝕄) = held (T d) S5 (V0 m d) := by
  unfold unscopedBufs
  rw [show (Finset.univ.filter fun b : Ref sig .tc => ¬ b.isScoped) = {main_arg0, main_arg1, main_cst, main_v0, main_v1} by decide,
    SparseCore.bigSep_insert' (by decide), SparseCore.bigSep_insert' (by decide), SparseCore.bigSep_insert' (by decide),
    SparseCore.bigSep_insert' (by decide), bigSep_singleton, held_S5]
  rfl

/-- The arrays after the constant and the padding. -/
abbrev V2 (d : Dev nD) : Valuation τ sig (Elt F) := (opPad (F := F)).result ((opZero (F := F)).result (V0 m d))

/-- An array neither operation writes is as at launch. -/
theorem V2_of_not_mem (d : Dev nD) (b : DevRef τ sig) (hz : b ≠ z') (hx : b ≠ x') : V2 m d b = m (d, b) := by
  unfold V2
  rw [(opPad (F := F)).result_of_not_mem _ (b := b) (show b ∉ ({x'} : Finset (DevRef τ sig)) from fun h => hx (Finset.mem_singleton.mp h)),
    (opZero (F := F)).result_of_not_mem _ (b := b) (show b ∉ ({z'} : Finset (DevRef τ sig)) from fun h => hz (Finset.mem_singleton.mp h))]
  rfl

/-- The padded input holds what `padX` says. -/
theorem V2_x (d : Dev nD) : V2 m d x' = padX m d := by
  unfold V2 padX opPad opZero
  after_results <;> rfl

/-- The constant touches none but the five arrays, -/
theorem hZero : (opZero (F := F)).bufs ⊆ S5 := show ({z'} : Finset (DevRef τ sig)) ⊆ S5 by decide
/-- nor does the padding. -/
theorem hPad : (opPad (F := F)).bufs ⊆ S5 := show ({a', z', x'} : Finset (DevRef τ sig)) ⊆ S5 by decide

/-- The arrays as the call finds them. -/
theorem held_V2 (d : Dev nD) :
    (held (T d) S5 (V2 m d) : sProp 𝕄) = iprop((aLoc d ↦{fullShare} m (aLoc d)) ∗ (pLoc d ↦{fullShare} m (pLoc d)) ∗ (zLoc d ↦{fullShare} V2 m d z')
      ∗ (xLoc d ↦{fullShare} (padX m d : Buf (Elt F) (xLoc d))) ∗ oLoc d ↦{fullShare} m (oLoc d)) := by
  rw [held_S5, V2_x, V2_of_not_mem m d a' (by decide) (by decide), V2_of_not_mem m d p' (by decide) (by decide),
    V2_of_not_mem m d o' (by decide) (by decide)]

/-- What the host's program leaves: the arguments as they were, the result at the diagonals. -/
abbrev FIN (d : Dev nD) : sProp 𝕄 :=
  iprop((aLoc d ↦{fullShare} m (aLoc d)) ∗ (pLoc d ↦{fullShare} m (pLoc d)) ∗ oLoc d ↦{fullShare} outF m d)

/-- The host's program on device `d`: the constant, the padding, the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opZero) (S := S5) hZero (V := V0 m d)) $$ [Hb Hheld]
  · isplitl [Hb] <;> iassumption
  iintro ⟨Hb, Hheld⟩
  rw [wp_ret]; imodintro
  iapply (wp_hlo_within 𝒱 (SparseCore.T d) none Set.univ (op := opPad) (S := S5) hPad (V := (opZero (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha, Hp, -, Hx, Ho⟩
  iapply ((K (F := F)).wp_run (D (F := F)) 𝒱 (EH := EH) (P := P m) κ d 0) $$ [Hst Ha Hp Hx Ho Hb Hts]
  isplitr; · iexact Hctx
  isplitl [Hst]; · iexact Hst
  isplitl [Hx Ho]
  · iapply (st0 m d)
    isplitl [Hx] <;> iassumption
  iintro ⟨Hst, Hdn⟩
  ihave Ho := (Entails.of_eq (dn0 m d)) $$ Hdn
  imodintro
  isplitl [Hst]; · iexact Hst
  isplitr [Hb Hts]
  · isplitl [Ha]; · iexact Ha
    isplitl [Hp]; · iexact Hp
    iexact Ho
  isplitl [Hb] <;> iassumption

/-- What a final state shows of device `d`. -/
def fq (d : Dev nD) (s' : Phys nD τ sig (Elt F)) : Prop :=
  s'.mem.mem (oLoc d) = outF m d ∧ s'.mem.mem (aLoc d) = m (aLoc d) ∧ s'.mem.mem (pLoc d) = m (pLoc d)

set_option maxRecDepth 16384 in
/-- The arrays held at the end are what memory holds. -/
theorem hfin (d : Dev nD) (s' : Phys nD τ sig (Elt F)) : iprop(FIN m d ∗ SI s') ⊢ (⌜fq m d s'⌝ : sProp 𝕄) := by
  iintro ⟨⟨Ha, Hp, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (SI_pointsTo_agree (st := s') (ℓ := oLoc d) (I := Finset.univ) (q := fullShare) (f := outF m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The run -/

/-- The end of a run: the result at the diagonals, the arguments as they were, every semaphore at zero. -/
def QC : PUnit × MemSt nD τ sig (Elt F) → Prop := fun r =>
  (∀ c : Dev nD, r.2.mem (oLoc c) = outF m c ∧ r.2.mem (aLoc c) = m (aLoc c) ∧ r.2.mem (pLoc c) = m (pLoc c)) ∧ r.2.sem = fun _ => 0

/-- Every run of the program, from any memory and at any float values, ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Diag

end
-- ==== Proof.Ref.lean ====
/-
  The reference's mathematics: the diagonal of each matrix, taken by a gather at the index pairs `(j, j)`, times `P`. Under
  the precondition `P` is 1 at `(i, i)` and 0 elsewhere, so place `(b, i)` of the product is the diagonal's place `(b, i)`:
  of the 2002 products one is the entry itself and the others are zero.
-/
module

public import proofs.«01_k».proof.Defs
public import proofs.«01_k».proof.Proof.Gen.ReferenceIdeal
public import proofs.«01_k».proof.Proof.Gen.ReferenceIdeal.Run
public import proofs.«01_k».proof.Proof.Gen.Pre_projector
public import Idealize.ShloMosaic.PureOps.Ideal.Laws
public import Idealize.ShloMosaic.Lib.ReduceAll
public import Idealize.ShloMosaic.Lib.StackMember
public import Idealize.ShloMosaic.Lib.StableHlo.Predicate
public import Idealize.ShloMosaic.Lib.Pipeline.Value

@[expose] public section

noncomputable section

namespace Cert.Proof.DiagRef

open Idealize.ShloMosaic
open Idealize.ShloMosaic.ValueIdx (ix1 ix2 ix3)
open Cert.ReferenceIdeal Cert.ReferenceIdeal.Gen

/-! ## The precondition, element by element -/

/-- The pattern of `1.0` denotes the number 1. -/
theorem ofBits_one : Ideal.ofBits .f32 0x3F800000#32 = 1 := by
  simp [Ideal.ofBits, Ideal.ieee, -EReal.coe_mul]; norm_num

/-- The precondition says of `P` that it is 1 at `(r, c)` when `r = c`, and 0 otherwise. -/
theorem projector_apply (x : FVec Ideal Cert.Pre_projector.S32x2002x2002 .f32) (P : FVec Ideal Cert.Pre_projector.S2002x128 .f32)
    (h : Cert.Pre_projector.fn (F := Ideal) x P = fun _ => 1#1) (r : Fin 2002) (c : Fin 128) :
    P (ix2 r c) = if r.val = c.val then 1 else 0 := by
  have e0 := congrFun h (fun a => a.elim0)
  haveI : Subsingleton Cert.Pre_projector.S_.Idx := ⟨fun a b => funext fun i => i.elim0⟩
  have e := Host.reduce_andi_all _ _ _ _ _ e0 (ix2 r c)
  have e1 : Ideal.cmp .oeq (P (ix2 r c)) (Scalar.select (IntOp.cmpi .eq (BitVec.ofNat 32 r.val) (BitVec.ofNat 32 c.val))
      (Ideal.ofBits .f32 0x3F800000#32) (Ideal.ofBits .f32 0x00000000#32)) = 1#1 := e
  have e2 : P (ix2 r c) = Scalar.select (IntOp.cmpi .eq (BitVec.ofNat 32 r.val) (BitVec.ofNat 32 c.val))
      (Ideal.ofBits .f32 0x3F800000#32) (Ideal.ofBits .f32 0x00000000#32) := by
    unfold Ideal.cmp at e1
    rw [StableHlo.Predicate.ofBool_eq_one_iff] at e1
    exact of_decide_eq_true e1
  rw [e2, ofBits_one, Ideal.ofBits_zero_f32]
  unfold Scalar.select
  refine if_congr ?_ rfl rfl
  refine StableHlo.Predicate.cmpi_eq_iff.trans ?_
  constructor
  · intro q
    have := congrArg BitVec.toNat q
    simp only [BitVec.toNat_ofNat] at this
    omega
  · intro q; rw [q]

/-! ## The diagonal by a gather -/

/-- The index of row `j`, a number below 2002 that the negative-index wrap leaves as it is. -/
def rowNo : IVec S2002 32 :=
  select (cmpi .slt (iotaInDim S2002 32 0) (broadcastInDim S2002 ![] bcast_S_S2002 (constantI S_ 32 0#32)))
    (addi (iotaInDim S2002 32 0) (broadcastInDim S2002 ![] bcast_S_S2002 (constantI S_ 32 2002#32))) (iotaInDim S2002 32 0)

/-- It is `j`. -/
theorem rowNo_apply (j : Fin 2002) : rowNo (ix1 j) = BitVec.ofNat 32 j.val := by
  have h : rowNo (ix1 j) = Scalar.select (IntOp.cmpi .slt (BitVec.ofNat 32 j.val) 0#32)
    (IntOp.addi (BitVec.ofNat 32 j.val) 2002#32) (BitVec.ofNat 32 j.val) := rfl
  rw [h]
  unfold Scalar.select
  refine if_neg fun q => ?_
  have := (StableHlo.Predicate.slt_iff_toNat (a := BitVec.ofNat 32 j.val) (b := 0#32) (by simp only [BitVec.toNat_ofNat]; omega) (by decide)).mp q
  simp at this

/-- The index pairs the gather reads at. -/
def pairs : IVec S2002x2 32 :=
  concatenate S2002x2 1 [⟨S2002x1, broadcastInDim S2002x1 ![0] bcast_S2002_S2002x1_0 rowNo⟩,
    ⟨S2002x1, broadcastInDim S2002x1 ![0] bcast_S2002_S2002x1_0 rowNo⟩] concatenates_S2002x1_S2002x1_S2002x2_d1

/-- A column of row numbers reads its row's number. -/
theorem column_apply (j : Fin 2002) :
    broadcastInDim S2002x1 ![0] bcast_S2002_S2002x1_0 rowNo (ix2 j (0 : Fin 1)) = BitVec.ofNat 32 j.val := by
  rw [← rowNo_apply j]
  unfold broadcastInDim
  congr 1
  funext a
  apply Fin.ext
  match a with
  | ⟨0, _⟩ => rfl

/-- Pair `j` is `(j, j)`. -/
theorem pairs_apply (j : Fin 2002) (k : Fin 2) : pairs (ix2 j k) = BitVec.ofNat 32 j.val := by
  unfold pairs
  match k with
  | ⟨0, _⟩ =>
    rw [concatenate_pair_apply_left (s₁ := S2002x1) (s₂ := S2002x1) 1 _ _ _ (ix2 j (⟨0, by decide⟩ : Fin 2)) rfl (ix2 j (0 : Fin 1))
      (fun b => by match b with | ⟨0, _⟩ => rfl | ⟨1, _⟩ => rfl)]
    exact column_apply j
  | ⟨1, _⟩ =>
    rw [concatenate_pair_apply_right (s₁ := S2002x1) (s₂ := S2002x1) 1 _ _ _ (ix2 j (⟨1, by decide⟩ : Fin 2)) rfl rfl (ix2 j (0 : Fin 1))
      (fun b hb => by match b with | ⟨0, _⟩ => rfl | ⟨1, _⟩ => exact absurd rfl hb) rfl]
    exact column_apply j

/-- The gather at those pairs is the diagonal. -/
theorem diagonal_apply {α : Type} (x : S32x2002x2002.Idx → α) (b : Fin 32) (j : Fin 2002) :
    Host.gather gather_S32x2002x2002_S2002x2_S32x2002_0_12_n_n_12_1_3211 x pairs (ix2 b j) = x (ix3 b j j) := by
  unfold Host.gather
  congr 1
  have hs : ∀ k : Fin 2, gather_S32x2002x2002_S2002x2_S32x2002_0_12_n_n_12_1_3211.siIdx (ix2 b j) k = ix2 j k := fun k => by
    funext a
    apply Fin.ext
    match a with
    | ⟨0, _⟩ => rfl
    | ⟨1, _⟩ => rfl
  have hn : (BitVec.ofNat 32 j.val).toInt.toNat = j.val := by rw [StableHlo.Predicate.toInt_ofNat_small _ (by omega)]; rfl
  funext a
  apply Fin.ext
  match a with
  | ⟨0, _⟩ => show 0 + 0 + b.val = b.val; omega
  | ⟨1, _⟩ =>
    show min (pairs (gather_S32x2002x2002_S2002x2_S32x2002_0_12_n_n_12_1_3211.siIdx (ix2 b j) (0 : Fin 2))).toInt.toNat (2002 - 1) + 0 + 0 = j.val
    rw [hs, pairs_apply, hn]; omega
  | ⟨2, _⟩ =>
    show min (pairs (gather_S32x2002x2002_S2002x2_S32x2002_0_12_n_n_12_1_3211.siIdx (ix2 b j) (1 : Fin 2))).toInt.toNat (2002 - 1) + 0 + 0 = j.val
    rw [hs, pairs_apply, hn]; omega

/-! ## The product -/

/-- The diagonal times such a `P` is the diagonal's first 128 places. -/
theorem product_apply (x : FVec Ideal S32x2002x2002 .f32) (P : FVec Ideal S2002x128 .f32)
    (hP : ∀ (r : Fin 2002) (c : Fin 128), P (ix2 r c) = if r.val = c.val then 1 else 0) (b : Fin 32) (i : Fin 128) :
    Host.dotGeneral dot_S32x2002_S2002x128_S32x128_1_0_0_1_n_n none
      (Host.gather gather_S32x2002x2002_S2002x2_S32x2002_0_12_n_n_12_1_3211 x pairs : FVec Ideal S32x2002 .f32) P (ix2 b i)
      = x (ix3 b (⟨i.val, by omega⟩ : Fin 2002) (⟨i.val, by omega⟩ : Fin 2002)) := by
  refine (StackMember.dotGeneral_plain_apply (m := 32) (k := 2002) (n := 128) none _ P b i).trans ?_
  rw [Finset.sum_eq_single (⟨i.val, by omega⟩ : Fin 2002)]
  · rw [hP, if_pos rfl, mul_one, diagonal_apply]
  · intro c _ hc
    rw [hP, if_neg (fun e => hc (Fin.ext e)), mul_zero]
  · exact fun h => absurd (Finset.mem_univ _) h

end Cert.Proof.DiagRef

end
-- ==== Proof.Claims.lean ====
/-
  The claims: each program's frame, and that the kernel's result is the reference's.
-/
module

public import proofs.«01_k».proof.Proof.Launch
public import proofs.«01_k».proof.Proof.Ref
public import proofs.«01_k».proof.Proof.Gen.Kernel
public import Idealize.ShloMosaic.Lib.KernelVsHost
public import Idealize.ShloMosaic.Lib.Quiescent

@[expose] public section

noncomputable section

namespace Cert.Proof.DiagClaims

open Idealize.ShloMosaic Idealize.SL.Sem
open Idealize.ShloMosaic.ValueIdx (ix1 ix2 ix3)
open Cert.Proof.Diag (run_main QC outF padX diagIdx aLoc pLoc oLoc)

/-! ## The frames -/

/-- The kernel as printed runs, keeps its arguments and leaves every semaphore at zero. Its program is the ideal one's
    text, so the run at any float values is its run. -/
theorem frame_kernel : Cert.quiescent_Kernel := fun m ρ _ =>
  (θ_run Cert.KernelIdeal.defs _ _).mono (fun _ h => ⟨fun c => (h.1 c).2, h.2⟩) (run_main (F := Bits) m ρ)

/-- So does the ideal kernel. -/
theorem frame_ideal : Cert.quiescent_KernelIdeal := fun m ρ _ =>
  (θ_run Cert.KernelIdeal.defs _ _).mono (fun _ h => ⟨fun c => (h.1 c).2, h.2⟩) (run_main (F := Ideal) m ρ)

/-- The reference runs and keeps its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

/-- The padding leaves the input where the input was, so the kernel's result at `(b, i)` is the input at `(b, i, i)`. -/
theorem outF_apply {F : FTy → Type} [FloatOps F] (m : (ℓ : Loc Cert.KernelIdeal.nD Cert.KernelIdeal.τ Cert.KernelIdeal.sig) → Buf (Elt F) ℓ)
    (d : Dev Cert.KernelIdeal.nD) (b : Fin 32) (i : Fin 128) :
    outF m d (ix2 b i) = m (aLoc d) (ix3 b (⟨i.val, by omega⟩ : Fin 2002) (⟨i.val, by omega⟩ : Fin 2002)) := by
  show padX m d (diagIdx (ix2 b i)) = _
  unfold padX
  refine pad_apply_of_inside _ _ _ _ _ _ _ _ _ fun a => ?_
  match a with
  | ⟨0, _⟩ => show b.val = 0 + b.val * (0 + 1); omega
  | ⟨1, _⟩ => show i.val = 0 + i.val * (0 + 1); omega
  | ⟨2, _⟩ => show i.val = 0 + i.val * (0 + 1); omega

/-- Under the precondition both programs end with the same result: place `(b, i)` is the input at `(b, i, i)`. -/
theorem algebraic : Cert.algebraic_KernelIdeal_ReferenceIdeal_pre_projector := by
  intro m ρ m' ρ' hpre hagree
  refine ⟨fun c => outF m c, ?_, ?_⟩
  · exact (θ_run Cert.KernelIdeal.defs _ _).mono (fun _ h c => h.1 c) (run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    funext y
    obtain ⟨b, i, rfl⟩ : ∃ (b : Fin 32) (i : Fin 128), y = ix2 b i :=
      ⟨y 0, y 1, funext fun a => by match a with | ⟨0, _⟩ => rfl | ⟨1, _⟩ => rfl⟩
    exact (DiagRef.product_apply _ _ (DiagRef.projector_apply _ _ (hpre c)) b i).trans (outF_apply m c b i).symm

end Cert.Proof.DiagClaims

end
-- ==== Proof.lean ====
/-
  The proof of `Cert.Claim` (Defs.lean): the frames of the kernel, of the ideal kernel and of the reference, and that under
  the precondition the ideal kernel's result is the reference's. Each part is proved in Proof/Claims.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_projector
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_projector.Gen.facts,
  DiagClaims.frame_kernel, DiagClaims.frame_ideal, fun m g _ => DiagClaims.frame_ideal m g trivial,
  DiagClaims.frame_reference, fun m g _ => DiagClaims.frame_reference m g trivial, trivial, DiagClaims.algebraic⟩

end Cert.Proof

end
